-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x256 : Shape := ⟨2, ![1000000, 256]⟩
abbrev S256x1 : Shape := ⟨2, ![256, 1]⟩
abbrev S1x256 : Shape := ⟨2, ![1, 256]⟩
abbrev S1000000 : Shape := ⟨1, ![1000000]⟩
abbrev S22528x256 : Shape := ⟨2, ![22528, 256]⟩
abbrev S22528 : Shape := ⟨1, ![22528]⟩
abbrev S22528x128 : Shape := ⟨2, ![22528, 128]⟩
abbrev S1x128 : Shape := ⟨2, ![1, 128]⟩
abbrev S1x22528 : Shape := ⟨2, ![1, 22528]⟩

abbrev nBuf : Space → Nat
  | .hbm => 4
  | .vmem => 5
  | .smem => 0
  | _ => 0

abbrev bufTy : (tb : Table) → Fin (tcTables nBuf tb) → BufTy
  | .hbm, ⟨0, _⟩ => ⟨S1000000x256, .f32⟩
  | .hbm, ⟨1, _⟩ => ⟨S256x1, .f32⟩
  | .hbm, ⟨2, _⟩ => ⟨S1x256, .f32⟩
  | .hbm, ⟨3, _⟩ => ⟨S1000000, .f32⟩
  | .local _ .vmem, ⟨0, _⟩ => ⟨S22528x256, .f32⟩
  | .local _ .vmem, ⟨1, _⟩ => ⟨S22528x256, .f32⟩
  | .local _ .vmem, ⟨2, _⟩ => ⟨S1x256, .f32⟩
  | .local _ .vmem, ⟨3, _⟩ => ⟨S22528, .f32⟩
  | .local _ .vmem, ⟨4, _⟩ => ⟨S22528, .f32⟩
  | _, _ => ⟨S1000000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![45], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S22528x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S22528 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1000000x256 : Shape := ⟨2, ![1000000, 256]⟩
abbrev S256x1 : Shape := ⟨2, ![256, 1]⟩
abbrev S256 : Shape := ⟨1, ![256]⟩
abbrev S1000000 : Shape := ⟨1, ![1000000]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1000000x256, .f32⟩
  | .hbm, ⟨1, _⟩ => ⟨S256x1, .f32⟩
  | .hbm, ⟨2, _⟩ => ⟨S256, .f32⟩
  | .hbm, ⟨3, _⟩ => ⟨S1000000, .f32⟩
  | .hbm, ⟨4, _⟩ => ⟨S1000000x256, .f32⟩
  | .hbm, ⟨5, _⟩ => ⟨S1000000, .f32⟩
  | .hbm, ⟨6, _⟩ => ⟨S_, .f32⟩
  | .hbm, ⟨7, _⟩ => ⟨S1000000, .f32⟩
  | .hbm, ⟨8, _⟩ => ⟨S1000000, .i1⟩
  | .hbm, ⟨9, _⟩ => ⟨S1000000, .f32⟩
  | .hbm, ⟨10, _⟩ => ⟨S_, .f32⟩
  | .hbm, ⟨11, _⟩ => ⟨S_, .f32⟩
  | .hbm, ⟨12, _⟩ => ⟨S1000000, .f32⟩
  | .hbm, ⟨13, _⟩ => ⟨S1000000, .f32⟩
  | _, _ => ⟨S1000000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Safe.lean ====
/- The kernel as compiled: every run finishes, the two arguments end as they began, and every semaphore counter ends at
   zero. The result's contents are left unnamed here: past the array's last row the last block of `x` holds words nothing
   names, and the matrix unit's rounding is not described row by row, so nothing is said of what the body stores. -/
module

public import proofs.«01_k».proof.Proof.Gen.Kernel.Frame
public import proofs.«01_k».proof.Proof.Gen.Kernel.Skeleton

@[expose] public section

noncomputable section

namespace Cert.KernelSafe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body, on whole staging buffers holding `x0`, `x1` and anything, leaves the two inputs' buffers as they were and
    the result's holding something. -/
theorem body_safe (c : Dev nD) (E : Set ℕ) (i : grid0.Coords)
    (arg1 : Memref sig .tc .vmem S22528x256 .f32) (harg1 : arg1.IsWhole)
    (arg2 : Memref sig .tc .vmem S1x256 .f32) (harg2 : arg2.IsWhole)
    (arg3 : Memref sig .tc .vmem S22528 .f32) (harg3 : arg3.IsWhole)
    (x0 : Vec F S22528x256 .f32) (x1 : Vec F S1x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ (∃ d, owns (c : Thread nD τ) arg3 fullShare d)) -∗ K ⟨⟩))
      ⊢ wp frame (wpE (defs₀ (F := F)) Variants.none c none) E (cc0__body i arg1 harg1 arg2 harg2 arg3 harg3) K := by
  simp only [cc0__body_eq_skeleton]; unfold cc0__body_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _, _; isplitr; swap; · iexact H2
  ipureintro; rfl

/-- The window whose contents are left unnamed: the result's. -/
def forgets : Fin 3 → Bool := fun w => w.val == 2

/-- The proof data on core `c`: the arrays as the region finds them; after the body at point `t` the buffer of `x` at its
    block (zero past the array's end), the buffer of `w` at its block, the result's unnamed. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t
    = win0_0.fill (grid0.coords t) (fun _ => Scalar.ofBits .f32 0#32) (iblk m c 0 t) := by dsimp only [dats]
theorem after_1 (c : Dev nD) (t : Fin cfg0.N) : (dats m 0 c).after 1 t = iblk m c 1 t := by dsimp only [dats]

/-- The body finds the buffer of `x` just fetched: its block on the rows inside the array, anything on the rest. -/
theorem before_0 (c : Dev nD) (t : Fin cfg0.N) (d) :
    (dats m 0 c).before 0 t d = win0_0.fill (grid0.coords t) d (iblk m c 0 t) := by
  unfold Dat.before; rw [if_pos (fetch0_0 t)]; rfl
/-- The body finds the buffer of `w` at its block. -/
theorem before_1 (c : Dev nD) (t : Fin cfg0.N) (d) : (dats m 0 c).before 1 t d = iblk m c 1 t :=
  before0_1_of m (dats m 0 c) (A_eq m c 1) (after_1 m c) t d

/-- The body's row of the table at point `t` is the body on that point's staging buffers. -/
theorem defs₀_row (t : Fin cfg0.N) :
    (defs₀ (F := F)) .tc cfg0.body (cfg0.bodyArgs t (cfg0.slots t)) = bodyAt0 t := by
  unfold defs₀; rw [Defs.onTc_tc]

/-- What the body finds at point `t`: the two inputs' buffers as the pipeline leaves them, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))

/-- What the body leaves at point `t`: the buffer of `x` at its block on the rows inside the array, the buffer of `w` at
    its block, the result's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare d))

/-- The body at point `t` takes what it finds to what it leaves. -/
theorem body_at (c : Dev nD) (t : Fin cfg0.N) :
    bodyPre m c t ⊢ wp frame (wpE (defs₀ (F := F)) Variants.none c none) Set.univ (bodyAt0 t) (fun _ => bodyPost m c t) := by
  have hx : win0_0.cut (grid0.coords t) ((dats m 0 c).after 0 t) = iblk m c 0 t := by
    rw [after_0]; exact win0_0.cut_fill _ _ _
  unfold bodyPre bodyPost bodyAt0
  simp only [before_0, before_1, hx, after_1]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  iapply (body_safe c Set.univ (grid0.coords t) _ _ _ _ _ _ (win0_0.fill (grid0.coords t) d0 (iblk m c 0 t)) (iblk m c 1 t) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]; · iexists d0; iexact H0
  isplitl [H1]; · iexact H1
  iexact H2

/-- The body's obligation at every point, the result's buffer unnamed. -/
theorem body_obligation (c : Dev nD) :
    BodyObligationLoose (dats (F := F) m 0 c) (defs₀ (F := F)) Variants.none () Set.univ forgets := fun t => by
  rw [bigSep_W0, bigSep_W0, defs₀_row]
  exact triple_restated (body_at m c t) rfl .rfl fun _ => .rfl

/-- Every run of the program finishes with each input array as the region found it and every semaphore counter at zero,
    nothing said of the result. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m Variants.none) (hA := A_eq m) (hΦ := fun _ _ => rfl)

/-- Every run of the program finishes with both arguments unchanged and every semaphore counter at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ ⟨h, hz⟩ => ⟨fun c =>
    ⟨(Pipeline.RDat.FramePost.arr_in h c 0 rfl).trans ((A_eq m c 0).trans (V_main_arg0 m c)),
      ((h c).2 main_arg1 (Pipeline.mem_restRefs_of main_arg1 (by decide) (by decide))).trans (V_main_arg1 m c)⟩, hz⟩)
    (run_main m ρ)

end Cert.KernelSafe

end
-- ==== Proof.Rows.lean ====
/- What the body computes, one row at a time, on the extended reals: at row `r` of its block it leaves the quotient of two
   weighted sums over the row's 256 entries (zero where the divisor is zero). The body sums the first 128 entries and the
   last 128 apart and adds the two; here that is one sum over all 256. -/
module

public import proofs.«01_k».proof.Proof.Gen.KernelIdeal.Skeleton
public import Idealize.ShloMosaic.Lib.MatmulPlain
public import Idealize.ShloMosaic.Lib.Pipeline.Value

@[expose] public section

noncomputable section

namespace Cert.RowQuotient

open Cert.KernelIdeal Cert.KernelIdeal.Gen
open Idealize.ShloMosaic Idealize.ShloMosaic.ValueIdx
open scoped BigOperators

/-- `n / s`, or zero where `s` is zero. -/
def quot (s n : Ideal .f32) : Ideal .f32 :=
  Scalar.select (FloatOps.cmpf .oeq s (Scalar.ofBits .f32 0x00000000#32)) (Scalar.ofBits .f32 0x00000000#32) (FloatOps.divf n s)

/-- The weighted sum Σ_k a_k · w_k of 256 entries. -/
def wsum (w a : Fin 256 → EReal) : EReal := ∑ k, a k * w k

/-- One row's result: the weighted sum of the squares over the weighted sum, zero where the latter is zero. -/
def rowOf (w a : Fin 256 → EReal) : EReal := quot (wsum w a) (wsum w fun k => a k * a k)

/-- Both arguments' result: each row of `x` under the one column of weights `w`. -/
def result (x : S1000000x256.Idx → EReal) (w : S256x1.Idx → EReal) : S1000000.Idx → EReal :=
  fun i => rowOf (fun k => w (ix2 k (0 : Fin 1))) (fun k => x (ix2 (i 0 : Fin 1000000) k))

/-- Two half sums of 128, weights first, are the weighted sum of 256. -/
theorem halves (w a : Fin 256 → EReal) :
    (∑ k : Fin 128, w (Fin.castAdd 128 k) * a (Fin.castAdd 128 k)) + ∑ k : Fin 128, w (Fin.natAdd 128 k) * a (Fin.natAdd 128 k)
      = wsum w a := by
  unfold wsum
  rw [show (∑ k : Fin 256, a k * w k) = ∑ k : Fin (128 + 128), a k * w k from rfl, Fin.sum_univ_add]
  exact congrArg₂ (· + ·) (Finset.sum_congr rfl fun k _ => mul_comm _ _) (Finset.sum_congr rfl fun k _ => mul_comm _ _)

/-- One half product at column `r`: the sum over its 128 positions. -/
theorem half_apply (l : FVec Ideal S1x128 .f32) (b : FVec Ideal S22528x128 .f32) (r : Fin 22528) :
    matmul dot_S1x128_S22528x128_S1x22528_1_1_0_0_n_n none l b (constant S1x22528 .f32 0x00000000#32) (ix2 (0 : Fin 1) r)
      = ∑ k : Fin 128, l (ix2 (0 : Fin 1) k) * b (ix2 r k) := by
  refine (Ideal.matmul_transposedRhs_apply none l b (constant S1x22528 .f32 0x00000000#32) (0 : Fin 1) r).trans ?_
  rw [show (constant S1x22528 .f32 0x00000000#32 : FVec Ideal S1x22528 .f32) (ix2 (0 : Fin 1) r) = Ideal.ofBits .f32 0x00000000#32 from rfl,
    Ideal.ofBits_zero_f32, zero_add]

/-- The weights' first half, read at `k`. -/
theorem low_apply (v : FVec Ideal S1x256 .f32) (k : Fin 128) :
    extractStridedSlice S1x128 ![0, 0] (shapeCast S1x256 v shapeCasts_S1x256_S1x256) slices_S1x256_o0_0_S1x128 (ix2 (0 : Fin 1) k)
      = v (ix2 (0 : Fin 1) (Fin.castAdd 128 k : Fin 256)) := by
  refine (extractStridedSlice_apply _ _ _ _ (ix2 (0 : Fin 1) (Fin.castAdd 128 k : Fin 256)) ?_).trans (shapeCast_apply _ _ _ _ rfl)
  intro a
  match a with
  | ⟨0, _⟩ => rfl
  | ⟨1, _⟩ => exact (Nat.zero_add _).symm

/-- The weights' second half, read at `k`. -/
theorem high_apply (v : FVec Ideal S1x256 .f32) (k : Fin 128) :
    extractStridedSlice S1x128 ![0, 128] (shapeCast S1x256 v shapeCasts_S1x256_S1x256) slices_S1x256_o0_128_S1x128 (ix2 (0 : Fin 1) k)
      = v (ix2 (0 : Fin 1) (Fin.natAdd 128 k : Fin 256)) := by
  refine (extractStridedSlice_apply _ _ _ _ (ix2 (0 : Fin 1) (Fin.natAdd 128 k : Fin 256)) ?_).trans (shapeCast_apply _ _ _ _ rfl)
  intro a
  match a with
  | ⟨0, _⟩ => rfl
  | ⟨1, _⟩ => rfl

/-- THE BODY'S VALUE AT A ROW: whatever the other rows hold, row `r` of what the body stores is that row's result. -/
theorem pay_row (v0 : Vec Ideal S1x256 .f32) (v2 v3 : Vec Ideal S22528x128 .f32) (r : Fin 22528) (w a : Fin 256 → EReal)
    (h0 : ∀ k, v0 (ix2 (0 : Fin 1) k) = w k)
    (h2 : ∀ k : Fin 128, v2 (ix2 r k) = a (Fin.castAdd 128 k)) (h3 : ∀ k : Fin 128, v3 (ix2 r k) = a (Fin.natAdd 128 k)) :
    k0_pay1 v0 v2 v3 (ix1 r) = rowOf w a := by
  unfold k0_pay1
  refine (shapeCast_apply _ _ _ (ix2 (0 : Fin 1) r) ?_).trans ?_
  · rw [Shape.rowMajor_val_two, Shape.rowMajor_val_one]; show 0 * 22528 + r.val = r.val; omega
  rw [select_apply]
  unfold rowOf quot
  rw [← halves w a, ← halves w fun k => a k * a k]
  have e1 := half_apply (extractStridedSlice S1x128 ![0, 0] (shapeCast S1x256 v0 shapeCasts_S1x256_S1x256) slices_S1x256_o0_0_S1x128) v2 r
  have e2 := half_apply (extractStridedSlice S1x128 ![0, 128] (shapeCast S1x256 v0 shapeCasts_S1x256_S1x256) slices_S1x256_o0_128_S1x128) v3 r
  have e3 := half_apply (extractStridedSlice S1x128 ![0, 0] (shapeCast S1x256 v0 shapeCasts_S1x256_S1x256) slices_S1x256_o0_0_S1x128) (mulf v2 v2) r
  have e4 := half_apply (extractStridedSlice S1x128 ![0, 128] (shapeCast S1x256 v0 shapeCasts_S1x256_S1x256) slices_S1x256_o0_128_S1x128) (mulf v3 v3) r
  simp only [low_apply, high_apply, h0, h2, h3] at e1 e2
  have m2 : ∀ k : Fin 128, (mulf v2 v2 : FVec Ideal S22528x128 .f32) (ix2 r k) = a (Fin.castAdd 128 k) * a (Fin.castAdd 128 k) :=
    fun k => by rw [← h2]; rfl
  have m3 : ∀ k : Fin 128, (mulf v3 v3 : FVec Ideal S22528x128 .f32) (ix2 r k) = a (Fin.natAdd 128 k) * a (Fin.natAdd 128 k) :=
    fun k => by rw [← h3]; rfl
  simp only [low_apply, high_apply, h0, m2] at e3
  simp only [low_apply, high_apply, h0, m3] at e4
  rw [← e1, ← e2, ← e3, ← e4]
  rfl

end Cert.RowQuotient

end
-- ==== Proof.KernelBody.lean ====
/- The kernel's body on the extended reals, run once on three whole buffers: what it stores, named from what it loads. -/
module

public import proofs.«01_k».proof.Proof.Gen.KernelIdeal.Frame
public import proofs.«01_k».proof.Proof.Rows
public import Idealize.ShloMosaic.Lib.Pipeline.ValueKit

@[expose] public section

noncomputable section

namespace Cert.KernelBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The left 128 columns of a block of `x`. -/
abbrev leftHalf (x0 : Vec Ideal S22528x256 .f32) : Vec Ideal S22528x128 .f32 :=
  View.ld x0 (Rect.unit (s := S22528x256) ![0, 0] S22528x128.size inb_S22528x256_S22528x128_0_0)
/-- The right 128 columns of a block of `x`. -/
abbrev rightHalf (x0 : Vec Ideal S22528x256 .f32) : Vec Ideal S22528x128 .f32 :=
  View.ld x0 (Rect.unit (s := S22528x256) ![0, 128] S22528x128.size inb_S22528x256_S22528x128_0_128)

/-- What the body stores when its input buffers hold `x0` and `x1`. -/
def stored (x0 : Vec Ideal S22528x256 .f32) (x1 : Vec Ideal S1x256 .f32) : Vec Ideal S22528 .f32 :=
  k0_pay1 x1 (leftHalf x0) (rightHalf x0)

/-- The body, on whole staging buffers holding `x0`, `x1` and anything, leaves the two inputs' buffers as they were and
    the result's holding `stored x0 x1`. -/
theorem body_value (c : Dev nD) (E : Set ℕ) (i : grid0.Coords)
    (arg1 : Memref sig .tc .vmem S22528x256 .f32) (harg1 : arg1.IsWhole)
    (arg2 : Memref sig .tc .vmem S1x256 .f32) (harg2 : arg2.IsWhole)
    (arg3 : Memref sig .tc .vmem S22528 .f32) (harg3 : arg3.IsWhole)
    (x0 : Vec Ideal S22528x256 .f32) (x1 : Vec Ideal S1x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (stored x0 x1)) -∗ K ⟨⟩))
      ⊢ wp frame (wpE (defs₀ (F := Ideal)) Variants.none c none) E (cc0__body i arg1 harg1 arg2 harg2 arg3 harg3) K := by
  simp only [cc0__body_eq_skeleton]; unfold cc0__body_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  rw [View.read_writes_eq_canon _ _ _ fun y => ⟨_, List.mem_singleton_self _, View.mem_set_unit_zero (funext fun a => by fin_cases a; rfl) inb_S22528_S22528_0 y⟩,
    View.canon_unit_zero (funext fun a => by fin_cases a; rfl)]
  simp only [View.readAt_eq_ld, harg1.read_unread, harg2.read_unread]
  unfold stored
  rw [View.ld_unit_lit inb_S1x256_S1x256_0_0 x1 (by decide)]

end Cert.KernelBody

end
-- ==== Proof.KernelBlock.lean ====
/- One block of the result on the extended reals. A block is 22528 rows and the array a million, so the last block
   overhangs; the rows past the array's end hold words nothing names, and no row inside the array reads them: on the rows
   inside the array, what the body stores is that block of the whole array's row quotients. -/
module

public import proofs.«01_k».proof.Proof.Gen.KernelIdeal.Frame
public import proofs.«01_k».proof.Proof.KernelBody
public import Idealize.ShloMosaic.Lib.Pipeline.ValueKit

@[expose] public section

noncomputable section

namespace Cert.KernelBlock

open Cert.KernelIdeal Cert.KernelIdeal.Gen Cert.RowQuotient Cert.KernelBody
open Idealize.ShloMosaic hiding ix1 ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The region finds the weights' row holding the weights' column. -/
theorem weights_entry (c : Dev nD) :
    V m c main_v0 = shapeCast S1x256 (m ((c : Thread nD τ).loc main_arg1)) shapeCasts_S256x1_S1x256 := by
  show StableHlo.after hostOps0 (fun b => m (c, b)) (Proc.devRef .tc main_v0) = _
  after_results <;> rfl

/-- The weights' row, read at `k`. -/
theorem weights_row (c : Dev nD) (k : Fin 256) :
    (V m c main_v0 : S1x256.Idx → EReal) (ix2 (0 : Fin 1) k) = (m ((c : Thread nD τ).loc main_arg1) : S256x1.Idx → EReal) (ix2 k (0 : Fin 1)) := by
  rw [weights_entry]
  refine shapeCast_apply _ _ _ (ix2 k (0 : Fin 1)) ?_
  rw [Shape.rowMajor_val_two, Shape.rowMajor_val_two]
  show k.val * 1 + 0 = 0 * 256 + k.val
  omega

/-- The whole result: each row's quotient. -/
abbrev whole (c : Dev nD) : Buf (Elt Ideal) ((c : Thread nD τ).loc main_v1) :=
  result (m ((c : Thread nD τ).loc main_arg0)) (m ((c : Thread nD τ).loc main_arg1))

/-- The proof data on core `c`: the arrays as the region finds them; after the body at point `t` each buffer at its block of
    its array — the result's of `whole` —, zero past the array's end. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (whole m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t
    = win0_0.fill (grid0.coords t) (fun _ => (0 : EReal)) (iblk m c 0 t) := by dsimp only [dats]
theorem after_1 (c : Dev nD) (t : Fin cfg0.N) : (dats m 0 c).after 1 t = iblk m c 1 t := by dsimp only [dats]
theorem after_2 (c : Dev nD) (t : Fin cfg0.N) : (dats m 0 c).after 2 t
    = win0_2.fill (grid0.coords t) (fun _ => (0 : EReal)) ((win0_2.blk t).view.read (Elt Ideal) (whole m c)) := by dsimp only [dats]

/-- The body finds the buffer of `x` just fetched: its block on the rows inside the array, anything on the rest. -/
theorem before_0 (c : Dev nD) (t : Fin cfg0.N) (d) :
    (dats m 0 c).before 0 t d = win0_0.fill (grid0.coords t) d (iblk m c 0 t) := by
  unfold Dat.before; rw [if_pos (fetch0_0 t)]; rfl
/-- The body finds the buffer of the weights at its block. -/
theorem before_1 (c : Dev nD) (t : Fin cfg0.N) (d) : (dats m 0 c).before 1 t d = iblk m c 1 t :=
  before0_1_of m (dats m 0 c) (A_eq m c 1) (after_1 m c) t d

/-! ## One block's rows -/

/-- Position `j` of the part of block `t` inside the array, as a row of the block. -/
def rowIn (t : Fin cfg0.N) (j : (win0_2.xblock (grid0.coords t)).Idx) : Fin 22528 :=
  ⟨(j 0).val, Nat.lt_of_lt_of_le (j 0).isLt (win0_2.xsize_le (grid0.coords t) 0)⟩
/-- The same position as a row of the array. -/
def rowAt (t : Fin cfg0.N) (j : (win0_2.xblock (grid0.coords t)).Idx) : Fin 1000000 := (win0_2.rect t).emb j 0

/-- The block of the weights is the weights' whole row. -/
theorem weights_block (c : Dev nD) (t : Fin cfg0.N) (k : Fin 256) :
    (iblk m c 1 t : S1x256.Idx → EReal) (ix2 (0 : Fin 1) k) = (m ((c : Thread nD τ).loc main_arg1) : S256x1.Idx → EReal) (ix2 k (0 : Fin 1)) := by
  refine Eq.trans ?_ (weights_row m c k)
  unfold iblk
  rw [View.read_apply]
  refine congrArg (V m c main_v0 : S1x256.Idx → EReal) (funext fun a => Fin.ext ?_)
  refine (Pipeline.Window.rect_emb_val_of_index_zero win0_1 t a ?_ _).trans rfl
  match a with
  | ⟨0, _⟩ => rfl
  | ⟨1, _⟩ => rfl

/-- A row of the fetched buffer of `x` that lies inside the array is that row of `x`, whatever the rest of the buffer
    holds. -/
theorem fetched_row (c : Dev nD) (t : Fin cfg0.N) (d : S22528x256.Idx → EReal) (j : (win0_2.xblock (grid0.coords t)).Idx) (k : Fin 256) :
    (win0_0.fill (grid0.coords t) d (iblk m c 0 t) : S22528x256.Idx → EReal)
        (ix2 (rowIn t j) k)
      = (m ((c : Thread nD τ).loc main_arg0) : S1000000x256.Idx → EReal) (ix2 (rowAt t j) k) := by
  have hj : ∀ a, (ix2 (rowIn t j) k a).val
      < win0_0.xsize (grid0.coords t) a := fun a => by
    match a with
    | ⟨0, _⟩ => exact (j 0).isLt
    | ⟨1, _⟩ => exact k.isLt
  refine (win0_0.fill_xinj (grid0.coords t) d (iblk m c 0 t)
    (fun a => ⟨(ix2 (rowIn t j) k a).val, hj a⟩)).trans ?_
  unfold iblk
  rw [View.read_apply]
  refine Eq.trans ?_ (congrFun (V_main_arg0 m c) _)
  refine congrArg (V m c main_arg0 : S1000000x256.Idx → EReal) (funext fun a => Fin.ext ?_)
  match a with
  | ⟨0, _⟩ => exact (Pipeline.Window.rect_emb_val win0_0 t _ 0).trans (Pipeline.Window.rect_emb_val win0_2 t j 0).symm
  | ⟨1, _⟩ => exact (Pipeline.Window.rect_emb_val_of_index_zero win0_0 t 1 rfl _).trans rfl

/-- THE BLOCK: on the rows inside the array, what the body stores is that block of `whole`. -/
theorem stored_block (c : Dev nD) (t : Fin cfg0.N) (d : S22528x256.Idx → EReal) :
    win0_2.cut (grid0.coords t) (stored (win0_0.fill (grid0.coords t) d (iblk m c 0 t)) (iblk m c 1 t))
      = (win0_2.blk t).view.read (Elt Ideal) (whole m c) := by
  funext j
  have hr : win0_2.xinj (grid0.coords t) j
      = ix1 (rowIn t j) := by
    funext a
    match a with
    | ⟨0, _⟩ => rfl
  show stored _ _ (win0_2.xinj (grid0.coords t) j) = _
  rw [hr]
  refine (pay_row _ _ _ _ (fun k => (m ((c : Thread nD τ).loc main_arg1) : S256x1.Idx → EReal) (ix2 k (0 : Fin 1)))
    (fun k => (m ((c : Thread nD τ).loc main_arg0) : S1000000x256.Idx → EReal) (ix2 (rowAt t j) k))
    (weights_block m c t) (fun k => ?_) (fun k => ?_)).trans rfl
  · refine (View.ld_unit_apply_of _ _ _ _ _ (ix2 (rowIn t j)
      (Fin.castAdd 128 k : Fin 256)) fun a => ?_).trans (fetched_row m c t d j _)
    match a with
    | ⟨0, _⟩ => exact (Nat.zero_add _).symm
    | ⟨1, _⟩ => exact (Nat.zero_add _).symm
  · refine (View.ld_unit_apply_of _ _ _ _ _ (ix2 (rowIn t j)
      (Fin.natAdd 128 k : Fin 256)) fun a => ?_).trans (fetched_row m c t d j _)
    match a with
    | ⟨0, _⟩ => exact (Nat.zero_add _).symm
    | ⟨1, _⟩ => rfl

end Cert.KernelBlock

end
-- ==== Proof.KernelRun.lean ====
/- The kernel on the extended reals: every run finishes with each row of the result at that row's quotient, the arguments as
   they began and every semaphore counter at zero. -/
module

public import proofs.«01_k».proof.Proof.Gen.KernelIdeal.Frame
public import proofs.«01_k».proof.Proof.KernelBlock
public import Idealize.ShloMosaic.Lib.Pipeline.ValueKit

@[expose] public section

noncomputable section

namespace Cert.KernelRun

open Cert.KernelIdeal Cert.KernelIdeal.Gen Cert.RowQuotient Cert.KernelBody Cert.KernelBlock
open Idealize.ShloMosaic hiding ix1 ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the body finds at point `t`: the two inputs' buffers as the pipeline leaves them, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body leaves at point `t`: the buffers of `x` and of the result at their blocks on the rows inside the array, the
    weights' buffer at its block. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t)))))

/-- On the rows inside the array, what the body stores is what the proof data names. -/
theorem stored_cut (c : Dev nD) (t : Fin cfg0.N) (d : S22528x256.Idx → EReal) :
    win0_2.cut (grid0.coords t) (stored (win0_0.fill (grid0.coords t) d (iblk m c 0 t)) (iblk m c 1 t))
      = win0_2.cut (grid0.coords t) ((dats m 0 c).after 2 t) := by
  rw [stored_block, after_2]
  exact (win0_2.cut_fill _ _ _).symm

/-- The body at point `t` takes what it finds to what it leaves. -/
theorem body_at (c : Dev nD) (t : Fin cfg0.N) :
    bodyPre m c t ⊢ wp frame (wpE (defs₀ (F := Ideal)) Variants.none c none) Set.univ (bodyAt0 t) (fun _ => bodyPost m c t) := by
  have hx : win0_0.cut (grid0.coords t) ((dats m 0 c).after 0 t) = iblk m c 0 t := by
    rw [after_0]; exact win0_0.cut_fill _ _ _
  unfold bodyPre bodyPost bodyAt0
  simp only [before_0, before_1, hx, after_1]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  iapply (body_value c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexact H1
  iexists stored (win0_0.fill (grid0.coords t) d0 (iblk m c 0 t)) (iblk m c 1 t)
  rw [win0_2.fill_congr_cut (grid0.coords t) (stored_cut m c t d0)]
  iexact H2

/-- The body's row of the table at point `t` is the body on that point's staging buffers. -/
theorem defs₀_row (t : Fin cfg0.N) :
    (defs₀ (F := Ideal)) .tc cfg0.body (cfg0.bodyArgs t (cfg0.slots t)) = bodyAt0 t := by
  unfold defs₀; rw [Defs.onTc_tc]

/-- The body's obligation at every point. -/
theorem body_obligation (c : Dev nD) :
    BodyObligationLoose (dats m 0 c) (defs₀ (F := Ideal)) Variants.none () Set.univ := fun t => by
  rw [bigSep_W0, bigSep_W0, defs₀_row]
  exact triple_restated (body_at m c t) rfl .rfl fun _ => .rfl

/-- Every run of the program finishes with each array at the contents the pipeline's write-backs give it, everything else as
    the region found it, and every semaphore counter at zero. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-! ## The whole array -/

/-- What point `t` writes back is block `t` of `whole`. -/
theorem flushed_eq (c : Dev nD) (t : Fin cfg0.N) :
    (dats m 0 c).flushed 2 t = (win0_2.blk t).view.read (Elt Ideal) (whole m c) := by
  show win0_2.cut (grid0.coords t) ((dats m 0 c).after 2 t) = _
  rw [after_2]
  exact win0_2.cut_fill _ _ _

/-- At every point the result's block begins at that point's multiple of 22528 and, cut at the array's end, reaches the next
    multiple or the end. -/
theorem block_rows : ∀ t : Fin grid0.N, win0_2.index t 0 * 22528 = 22528 * t.val
    ∧ (22528 * (t.val + 1) ≤ 22528 * t.val + win0_2.xsize (grid0.coords t) 0
      ∨ 1000000 ≤ 22528 * t.val + win0_2.xsize (grid0.coords t) 0) := by decide +kernel

/-- Every row of the array is in some point's block: row `i` in point `i / 22528`'s. -/
theorem covered (i : S1000000.Idx) : ∃ t : Fin cfg0.N, (cfg0.win 2).flush t = true ∧ i ∈ (win0_2.blk t).view.set := by
  have hi : (i 0).val < 1000000 := (i 0).isLt
  have hN : grid0.N = 45 := N_0
  have hq : (i 0).val / 22528 < grid0.N := by omega
  refine ⟨⟨(i 0).val / 22528, hq⟩, flush0_2 _, ?_⟩
  show i ∈ ((View.whole main_v1).slice (win0_2.rect ⟨(i 0).val / 22528, hq⟩)).set
  rw [View.set_slice_whole, Rect.mem_set_unit]
  obtain ⟨h1, h2⟩ := block_rows ⟨(i 0).val / 22528, hq⟩
  dsimp only at h1 h2
  intro a
  match a with
  | ⟨0, _⟩ =>
    show win0_2.index ⟨(i 0).val / 22528, hq⟩ 0 * 22528 ≤ (i 0).val
      ∧ (i 0).val < win0_2.index ⟨(i 0).val / 22528, hq⟩ 0 * 22528 + win0_2.xsize (grid0.coords ⟨(i 0).val / 22528, hq⟩) 0
    rw [h1]
    constructor
    · omega
    · rcases h2 with h2 | h2 <;> omega

/-- So the result's array ends holding `whole`. -/
theorem final (c : Dev nD) : (dats m 0 c).arrAt 2 cfg0.N = whole m c :=
  (dats m 0 c).arrAt_eq_of_cover 2 (whole m c) (fun t _ => flushed_eq m c t) covered

/-- Every run of the program finishes with the result at `result` of the arguments, the arguments unchanged, and every
    semaphore counter at zero. -/
theorem run : θ_run defs (onTc (τ := τ) (main (F := Ideal))) ⟨m, fun _ => 0, ρ⟩ (fun r => (∀ c : Dev nD,
      r.2.mem ((c.tc : Thread nD τ).loc main_v1)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ ⟨h, hz⟩ => ⟨fun c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩, hz⟩)
    (run_main m ρ)

end Cert.KernelRun

end
-- ==== Proof.ReferenceRun.lean ====
/- The reference on the extended reals: every run finishes with each row of the result at that row's quotient, the
   arguments as they began and every semaphore counter at zero. -/
module

public import proofs.«01_k».proof.Proof.Gen.ReferenceIdeal.Run
public import proofs.«01_k».proof.Proof.Rows

@[expose] public section

noncomputable section

namespace Cert.ReferenceRun

open Cert.ReferenceIdeal Cert.ReferenceIdeal.Gen Cert.RowQuotient
open Idealize.ShloMosaic Idealize.ShloMosaic.TcCoe Idealize.ShloMosaic.ValueIdx Idealize.SL.Sem
open scoped BigOperators

/-- The weights as one row of 256, read at `k`. -/
theorem weights_apply (w : FVec Ideal S256x1 .f32) (k : Fin 256) :
    shapeCast S256 w shapeCasts_S256x1_S256 (ix1 k) = w (ix2 k (0 : Fin 1)) := by
  refine shapeCast_apply _ _ _ (ix2 k (0 : Fin 1)) ?_
  rw [Shape.rowMajor_val_two, Shape.rowMajor_val_one]
  show k.val * 1 + 0 = k.val
  omega

/-- The reference's product at row `r`: the weighted sum of that row's entries. -/
theorem product_apply (x : FVec Ideal S1000000x256 .f32) (v : FVec Ideal S256 .f32) (r : Fin 1000000) :
    Host.dotGeneral dot_S1000000x256_S256_S1000000_1_0_0_n_n_n none x v (ix1 r)
      = wsum (fun k => v (ix1 k)) (fun k => x (ix2 r k)) := by
  simp only [Host.dotGeneral]
  have hr : dot_S1000000x256_S256_S1000000_1_0_0_n_n_n.contr.rank = 1 := rfl
  have hs : dot_S1000000x256_S256_S1000000_1_0_0_n_n_n.contr.size ⟨0, by omega⟩ = 256 := rfl
  rw [Ideal.dotGeneral_apply, ← Equiv.sum_comp (contrEquiv1 dot_S1000000x256_S256_S1000000_1_0_0_n_n_n 256 hr hs).symm]
  unfold wsum
  refine Finset.sum_congr rfl fun k _ => ?_
  have hk := contrEquiv1_symm_val dot_S1000000x256_S256_S1000000_1_0_0_n_n_n 256 hr hs k
  have el : dot_S1000000x256_S256_S1000000_1_0_0_n_n_n.lhsIdx (ix1 r)
      ((contrEquiv1 dot_S1000000x256_S256_S1000000_1_0_0_n_n_n 256 hr hs).symm k) = ix2 r k := by
    funext a; apply Fin.ext
    match a with
    | ⟨0, _⟩ => rfl
    | ⟨1, _⟩ => exact hk
  have er : dot_S1000000x256_S256_S1000000_1_0_0_n_n_n.rhsIdx (ix1 r)
      ((contrEquiv1 dot_S1000000x256_S256_S1000000_1_0_0_n_n_n 256 hr hs).symm k) = ix1 k := by
    funext a; apply Fin.ext
    match a with
    | ⟨0, _⟩ => exact hk
  rw [el, er]

/-- The reference's term is `result` of its two arguments. -/
theorem term_eq (x : FVec Ideal S1000000x256 .f32) (w : FVec Ideal S256x1 .f32) :
    select (cmpf .oeq (Host.dotGeneral dot_S1000000x256_S256_S1000000_1_0_0_n_n_n none x (shapeCast S256 w shapeCasts_S256x1_S256))
        (broadcastInDim S1000000 ![] bcast_S_S1000000 (constant S_ .f32 0x00000000#32)))
      (broadcastInDim S1000000 ![] bcast_S_S1000000 (id (constant S_ .f32 0x00000000#32)))
      (Host.divf (Host.dotGeneral dot_S1000000x256_S256_S1000000_1_0_0_n_n_n none (mulf x x) (shapeCast S256 w shapeCasts_S256x1_S256))
        (Host.dotGeneral dot_S1000000x256_S256_S1000000_1_0_0_n_n_n none x (shapeCast S256 w shapeCasts_S256x1_S256)))
      = result x w := by
  funext i
  obtain ⟨r, rfl⟩ : ∃ r : Fin 1000000, i = ix1 r := ⟨i 0, eq_ix1 i⟩
  have e1 := product_apply x (shapeCast S256 w shapeCasts_S256x1_S256) r
  have e2 := product_apply (mulf x x) (shapeCast S256 w shapeCasts_S256x1_S256) r
  simp only [weights_apply] at e1 e2
  show quot (Host.dotGeneral dot_S1000000x256_S256_S1000000_1_0_0_n_n_n none x (shapeCast S256 w shapeCasts_S256x1_S256) (ix1 r))
      (Host.dotGeneral dot_S1000000x256_S256_S1000000_1_0_0_n_n_n none (mulf x x) (shapeCast S256 w shapeCasts_S256x1_S256) (ix1 r)) = _
  rw [e1, e2]
  rfl

variable (m : (ℓ : Loc nD τ sig) → Buf (Elt Ideal) ℓ) (ρ : Dev nD → PrngReg)

/-- Every run of the reference finishes with the result at `result` of the arguments and the arguments unchanged. -/
theorem run : θ_run defs (onTc (τ := τ) (main (F := Ideal))) ⟨m, fun _ => 0, ρ⟩ fun r => ∀ c : Dev nD,
      r.2.mem ((c.tc : Thread nD τ).loc main_v7)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (term_eq _ _), (h c).2⟩) (Cert.ReferenceIdeal.Value.run m ρ)

/-- Every run of the reference finishes with the arguments unchanged and every semaphore counter at zero: it has none. -/
theorem args_kept : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩) (run m ρ)

end Cert.ReferenceRun

end
-- ==== Proof.lean ====
module

public import proofs.«01_k».proof.Defs
public import proofs.«01_k».proof.Proof.Safe
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem

/-- The kernel as compiled finishes every run with its arguments unchanged and every semaphore counter at zero. -/
theorem kernel_safe : Cert.quiescent_Kernel := fun m ρ _ => Cert.KernelSafe.args_kept m ρ

/-- So does the kernel on the extended reals. -/
theorem ideal_safe : Cert.quiescent_KernelIdeal := fun m ρ _ =>
  (θ_run Cert.KernelIdeal.defs _ _).mono (fun _ h => ⟨fun c => (h.1 c).2, h.2⟩) (Cert.KernelRun.run m ρ)

/-- So does the reference. -/
theorem reference_safe : Cert.quiescent_ReferenceIdeal := fun m ρ _ => Cert.ReferenceRun.args_kept m ρ

/-- From equal arguments the kernel and the reference end with equal results on the extended reals. -/
theorem equal_results : Cert.algebraic_KernelIdeal_ReferenceIdeal := by
  intro m ρ m' ρ' _ hagree
  refine ⟨fun c => Cert.KernelBlock.whole m c,
    (θ_run Cert.KernelIdeal.defs _ _).mono (fun _ h => h.1) (Cert.KernelRun.run m ρ),
    (θ_run Cert.ReferenceIdeal.defs _ _).mono (fun _ h c => ⟨(h c).1.trans ?_, (h c).2⟩) (Cert.ReferenceRun.run m' ρ')⟩
  exact congrArg₂ Cert.RowQuotient.result (hagree c).1 (hagree c).2

/-- Everything the certificate claims. -/
theorem claim : Cert.Claim := ⟨Cert.Kernel.Gen.facts, Cert.KernelIdeal.Gen.facts, Cert.ReferenceIdeal.Gen.facts,
  kernel_safe, ideal_safe, reference_safe, trivial, equal_results⟩

end Cert.Proof

end
